-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024 : Shape := ⟨1, ![1024]⟩
abbrev S100000x32 : Shape := ⟨2, ![100000, 32]⟩
abbrev S32x100000 : Shape := ⟨2, ![32, 100000]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x32 .f32) (main_arg2 : FVec F S32x100000 .f32) (main_arg3 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S100000x32 : Shape := ⟨2, ![100000, 32]⟩
abbrev S32x100000 : Shape := ⟨2, ![32, 100000]⟩
abbrev S100000 : Shape := ⟨1, ![100000]⟩
abbrev S25000x128 : Shape := ⟨2, ![25000, 128]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S16 : Shape := ⟨1, ![16]⟩
abbrev S1024x1 : Shape := ⟨2, ![1024, 1]⟩
abbrev S1x100000 : Shape := ⟨2, ![1, 100000]⟩
abbrev S1024x100000 : Shape := ⟨2, ![1024, 100000]⟩
abbrev S32x1 : Shape := ⟨2, ![32, 1]⟩
abbrev S32x32 : Shape := ⟨2, ![32, 32]⟩

abbrev nBuf : Table → Nat
  | .hbm => 9
  | .local .tc .vmem => 8
  | .local .scVector .vmem => 3
  | _ => 0

abbrev bufTy : (tb : Table) → Fin (nBuf tb) → BufTy
  | .hbm, ⟨0, _⟩ => ⟨S1024, .i32⟩
  | .hbm, ⟨1, _⟩ => ⟨S100000x32, .f32⟩
  | .hbm, ⟨2, _⟩ => ⟨S32x100000, .f32⟩
  | .hbm, ⟨3, _⟩ => ⟨S100000, .f32⟩
  | .hbm, ⟨4, _⟩ => ⟨S25000x128, .f32⟩
  | .hbm, ⟨5, _⟩ => ⟨S1024x128, .f32⟩
  | .hbm, ⟨6, _⟩ => ⟨S1024x1, .i32⟩
  | .hbm, ⟨7, _⟩ => ⟨S1x100000, .f32⟩
  | .hbm, ⟨8, _⟩ => ⟨S1024x100000, .f32⟩
  | .local .tc .vmem, ⟨0, _⟩ => ⟨S32x1, .i32⟩
  | .local .tc .vmem, ⟨1, _⟩ => ⟨S32x1, .i32⟩
  | .local .tc .vmem, ⟨2, _⟩ => ⟨S32x128, .f32⟩
  | .local .tc .vmem, ⟨3, _⟩ => ⟨S32x128, .f32⟩
  | .local .tc .vmem, ⟨4, _⟩ => ⟨S32x100000, .f32⟩
  | .local .tc .vmem, ⟨5, _⟩ => ⟨S1x100000, .f32⟩
  | .local .tc .vmem, ⟨6, _⟩ => ⟨S32x100000, .f32⟩
  | .local .tc .vmem, ⟨7, _⟩ => ⟨S32x100000, .f32⟩
  | .local .scVector .vmem, ⟨0, _⟩ => ⟨S32, .i32⟩
  | .local .scVector .vmem, ⟨1, _⟩ => ⟨S32, .i32⟩
  | .local .scVector .vmem, ⟨2, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 4, rfl⟩
abbrev main_arg0_scv : Ref sig .scVector := ⟨.hbm, 0, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem4_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7_r1 : BitVec 32 := 0#32
  ![v2.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x100000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x100000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x100000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S100000x32 : Shape := ⟨2, ![100000, 32]⟩
abbrev S32x100000 : Shape := ⟨2, ![32, 100000]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x32 : Shape := ⟨2, ![1024, 32]⟩
abbrev S1024x100000 : Shape := ⟨2, ![1024, 100000]⟩
abbrev S1x100000 : Shape := ⟨2, ![1, 100000]⟩

abbrev nBuf : Space → Nat
  | .hbm => 31
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x32, .f32⟩
  | .hbm, ⟨2, _⟩ => ⟨S32x100000, .f32⟩
  | .hbm, ⟨3, _⟩ => ⟨S100000, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x32, .f32⟩
  | .hbm, ⟨23, _⟩ => ⟨S1024x32, .i1⟩
  | .hbm, ⟨24, _⟩ => ⟨S_, .f32⟩
  | .hbm, ⟨25, _⟩ => ⟨S1024x32, .f32⟩
  | .hbm, ⟨26, _⟩ => ⟨S1024x32, .f32⟩
  | .hbm, ⟨27, _⟩ => ⟨S1024x100000, .f32⟩
  | .hbm, ⟨28, _⟩ => ⟨S1x100000, .f32⟩
  | .hbm, ⟨29, _⟩ => ⟨S1024x100000, .f32⟩
  | .hbm, ⟨30, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Tile.lean ====
/-
  What one task of the gather does. Task `w = 2 s + c` — vector subcore `s` of SparseCore `c` — fetches words
  `[32 w, 32 w + 32)` of the indices, shifts each right by two, streams in the rows of the table those name and writes
  them to rows `[32 w, 32 w + 32)` of the result. It reads the indices and the table through a share of each and owns
  its rows of the result outright; it leaves them at `packed`, the rows the indices name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WritesUnit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

abbrev iLoc (d : Dev nD) : Loc nD τ sig := (SparseCore.T d).loc main_arg0
abbrev tLoc (d : Dev nD) : Loc nD τ sig := (SparseCore.T d).loc main_v0
abbrev gLoc (d : Dev nD) : Loc nD τ sig := (SparseCore.T d).loc main_v1

local notation "tV" => (Memref.whole Cert.KernelIdeal.main_v0_scv : Memref Cert.KernelIdeal.sig Kind.scVector Space.hbm Cert.KernelIdeal.S25000x128 EltTy.f32)
local notation "iV" => (Memref.whole Cert.KernelIdeal.main_arg0_scv : Memref Cert.KernelIdeal.sig Kind.scVector Space.hbm Cert.KernelIdeal.S1024 EltTy.i32)
local notation "gV" => (Memref.whole Cert.KernelIdeal.main_v1_scv : Memref Cert.KernelIdeal.sig Kind.scVector Space.hbm Cert.KernelIdeal.S1024x128 EltTy.f32)
local notation "nV" => (Memref.whole Cert.KernelIdeal.cc0_scratch0 : Memref Cert.KernelIdeal.sig Kind.scVector Space.vmem Cert.KernelIdeal.S32 EltTy.i32)
local notation "sV" => (Memref.whole Cert.KernelIdeal.cc0_scratch1 : Memref Cert.KernelIdeal.sig Kind.scVector Space.vmem Cert.KernelIdeal.S32 EltTy.i32)
local notation "rV" => (Memref.whole Cert.KernelIdeal.cc0_scratch2 : Memref Cert.KernelIdeal.sig Kind.scVector Space.vmem Cert.KernelIdeal.S32x128 EltTy.f32)

theorem gdiv : 32 ∣ S1024x128.size 0 := ⟨32, rfl⟩
/-- The 32 rows of the result that task `w` writes. -/
abbrev gRow (w : Fin 32) : Rect S1024x128 := Rect.part (s := S1024x128) (a₀ := 0) gdiv w
abbrev gSet (w : Fin 32) : Finset S1024x128.Idx := ((gV).view.slice (gRow w)).set

/-- Task `w`'s share of a buffer all tasks read. -/
abbrev shr (w : Fin 32) : PosShare TreeShare := pieceOf fullShare 32 (by decide) w

/-! ## The value: the rows the indices name -/

/-- The packed row that holds the vocabulary entry of an index: its quotient by four, reduced into the table. -/
def rowOfIndex (v : BitVec 32) : Fin 25000 := ⟨(v.sshiftRight 2).toNat % 25000, Nat.mod_lt _ (by decide)⟩

/-- The position `n` of a list of 1024. -/
def at1024 (n : Fin 1024) : S1024.Idx := fun | 0 => n

/-- Row `r` is the row of the packed table that holds entry `x r`. -/
def packed (x : S1024.Idx → BitVec 32) (tb : S25000x128.Idx → F .f32) : S1024x128.Idx → F .f32 :=
  fun j => tb fun | 0 => rowOfIndex (x (at1024 (j 0))) | 1 => j 1

/-- Every index names a vocabulary entry. -/
def InRange (x : S1024.Idx → BitVec 32) : Prop := ∀ j, (x j).toNat < 100000

/-- The indices and the table at a share, a task's rows of the result outright. -/
abbrev iPts (d : Dev nD) (q : PosShare TreeShare) (x : Buf (Elt F) (iLoc d)) : sProp 𝕄 := iLoc d ↦{q} x
abbrev tPts (d : Dev nD) (q : PosShare TreeShare) (tb : Buf (Elt F) (tLoc d)) : sProp 𝕄 := tLoc d ↦{q} tb
abbrev gPts (d : Dev nD) (w : Fin 32) (g : Buf (Elt F) (gLoc d)) : sProp 𝕄 := gLoc d ↦[gSet w]{fullShare} g

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The task's number. -/
def wid (L : grid0.Coords) : Fin 32 :=
  ⟨(L 1).val * 2 + (L 0).val, by have h0 : (L 0).val < 2 := (L 0).isLt; have h1 : (L 1).val < 16 := (L 1).isLt; omega⟩

abbrev iPartK (L : grid0.Coords) : Memref sig .scVector .hbm S32 .i32 :=
  (iV).slice (Rect.unit (s := S1024) (k0_off1 L) S32.size (k0_off1_inb L)) (fun _ => rfl)
abbrev gPartK (L : grid0.Coords) : Memref sig .scVector .hbm S32x128 .f32 :=
  (gV).slice (Rect.unit (s := S1024x128) (k0_off2 L) S32x128.size (k0_off2_inb L)) (fun _ => rfl)
abbrev tAllK : Memref sig .scVector .hbm S25000x128 .f32 :=
  (tV).slice (Rect.unit (s := S25000x128) ![0, 0] S25000x128.size inb_S25000x128_S25000x128_0_0) (fun _ => rfl)

omit [FloatOps F] in
theorem gPart_eq : Rect.unit (s := S1024x128) (k0_off2 L) S32x128.size (k0_off2_inb L) = gRow (wid L) := by
  unfold gRow Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_gPartK : (gPartK L).view.set = gSet (wid L) := by
  show ((gV).view.slice (Rect.unit (s := S1024x128) (k0_off2 L) S32x128.size (k0_off2_inb L))).set = ((gV).view.slice (gRow (wid L))).set
  exact gPart_eq L ▸ rfl

omit [FloatOps F] in
theorem pts_gPartK (f : Buf (Elt F) (gLoc d)) :
    ((gPartK L).view.loc (V d (cV L) (jV L)) ↦[(gPartK L).view.set]{fullShare} f : sProp 𝕄) = gLoc d ↦[gSet (wid L)]{fullShare} f := by
  rw [set_gPartK]
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_nV (f : Buf (Elt F) ((V d (cV L) (jV L)).loc cc0_scratch0)) :
    ((nV).view.loc (V d (cV L) (jV L)) ↦{fullShare} f : sProp 𝕄) = (V d (cV L) (jV L)).loc cc0_scratch0 ↦{fullShare} f := rfl
omit [FloatOps F] in
theorem pts_sV (f : Buf (Elt F) ((V d (cV L) (jV L)).loc cc0_scratch1)) :
    ((sV).view.loc (V d (cV L) (jV L)) ↦{fullShare} f : sProp 𝕄) = (V d (cV L) (jV L)).loc cc0_scratch1 ↦{fullShare} f := rfl
omit [FloatOps F] in
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-! ## The task's semaphores and scratch buffers among the subcore's own -/

abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scratch3.sem)
abbrev cellC (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc0_scratch3.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc0_scoped1.sem : SemLoc sig).isScoped .scVector = true; decide⟩⟩⟩)]

abbrev own (L : grid0.Coords) (b : Ref sig .scVector) : DevRef τ sig := (Proc.scVector (cV L) (jV L)).devRef b

omit [FloatOps F] in
/-- The three scratch buffers, each at some contents, and the rest of the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (own L cc0_scratch0)).erase (own L cc0_scratch1)).erase (own L cc0_scratch2))
              fun b => iprop(∃ f, ((d, b) : Loc nD τ sig) ↦{fullShare} f)) := by
  have inj : ∀ a b : Ref sig .scVector, a ≠ b → own L a ≠ own L b := fun a b h e => h (Proc.devRef_injective _ e)
  unfold SparseCore.Cfg.ownBufs
  refine (SparseCore.bigSep_erase' (SparseCore.Cfg.mem_ownRefs_of_owner (p := Proc.scVector (cV L) (jV L)) (b := own L cc0_scratch0) rfl)).trans ?_
  rw [SparseCore.bigSep_erase' (Finset.mem_erase.mpr ⟨inj cc0_scratch1 cc0_scratch0 (by decide),
      SparseCore.Cfg.mem_ownRefs_of_owner (p := Proc.scVector (cV L) (jV L)) (b := own L cc0_scratch1) rfl⟩),
    SparseCore.bigSep_erase' (Finset.mem_erase.mpr ⟨inj cc0_scratch2 cc0_scratch1 (by decide), Finset.mem_erase.mpr ⟨inj cc0_scratch2 cc0_scratch0 (by decide),
      SparseCore.Cfg.mem_ownRefs_of_owner (p := Proc.scVector (cV L) (jV L)) (b := own L cc0_scratch2) rfl⟩⟩)]

/-! ## The words the task streams by, and what the stream brings -/

/-- Where word `y` of the task's indices lies in the list. -/
def posOf (L : grid0.Coords) (y : S32.Idx) : Fin 1024 :=
  ⟨(wid L).val * 32 + (y 0).val, by have h := (wid L).isLt; have h' : (y 0).val < 32 := (y 0).isLt; omega⟩

/-- The position `n` of a vector of sixteen words. -/
def at16 (n : Fin 16) : S16.Idx := fun | 0 => n

/-- The position `n` of a vector of thirty-two words. -/
def at32 (n : Fin 32) : S32.Idx := fun | 0 => n

/-- Position `n` of a vector of thirty-two words, by its row-major number. -/
theorem symm32 (n : Fin S32.numel) : S32.rowMajor.symm n = at32 (n.cast (Shape.numel_rank1 _)) :=
  (S32.rowMajor.symm_apply_eq).2 (Fin.ext (by rw [Shape.rowMajor_val_one]; rfl))

omit [FloatOps F] in
theorem shift_pay1 (v : Vec F S16 .i32) (j : S16.Idx) : k0_pay1 v j = (v j).sshiftRight 2 := by
  unfold k0_pay1
  simp only [shapeCast_self]
  rfl
omit [FloatOps F] in
theorem shift_pay2 (v : Vec F S16 .i32) (j : S16.Idx) : k0_pay2 v j = (v j).sshiftRight 2 := by
  unfold k0_pay2
  simp only [shapeCast_self]
  rfl

omit [FloatOps F] in
/-- The two stores of sixteen words leave every word of the list shifted right by two. -/
theorem shifted_read (f₀ : Buf (Elt F) ((V d (cV L) (jV L)).loc cc0_scratch1)) (fi : Buf (Elt F) ((V d (cV L) (jV L)).loc cc0_scratch0)) (y : S32.Idx) :
    (sV).view.read (Elt F) ((sV).view.writes (Elt F) f₀
        [⟨Rect.unit ![16] S16.size inb_S32_S16_16, k0_pay2 (View.readAt (Elt F) (nV).view (Rect.unit (s := S32) ![16] S16.size inb_S32_S16_16).toLoadRect fi)⟩,
         ⟨Rect.unit ![0] S16.size inb_S32_S16_0, k0_pay1 (View.readAt (Elt F) (nV).view (Rect.unit (s := S32) ![0] S16.size inb_S32_S16_0).toLoadRect fi)⟩]) y
      = ((fi y : BitVec 32)).sshiftRight 2 := by
  have hy : (y 0).val < 32 := (y 0).isLt
  by_cases h : 16 ≤ (y 0).val
  · have hl : (y 0).val - 16 < 16 := by omega
    refine (View.read_writes_cons_unit_of_mem (sV).view f₀ (size := S16.size) (off' := ![16]) inb_S32_S16_16 _ _ y (at16 ⟨_, hl⟩) rfl
      (fun | 0 => by show (y 0).val = 16 + ((y 0).val - 16); omega)).trans ?_
    rw [shift_pay2]
    refine congrArg (fun i : S32.Idx => (fi i : BitVec 32).sshiftRight 2) (funext fun a => ?_)
    match a with
    | 0 => exact Fin.ext (by show 16 + 1 * ((y 0).val - 16) = (y 0).val; omega)
  · have hl : (y 0).val < 16 := by omega
    refine (View.read_writes_cons_unit_of_not_mem (sV).view f₀ (size := S16.size) (off' := ![16]) inb_S32_S16_16 _ _ y rfl 0 (.inl (by show (y 0).val < 16; omega))).trans ?_
    refine (View.read_writes_cons_unit_of_mem (sV).view f₀ (size := S16.size) (off' := ![0]) inb_S32_S16_0 _ _ y (at16 ⟨_, hl⟩) rfl
      (fun | 0 => by show (y 0).val = 0 + (y 0).val; omega)).trans ?_
    rw [shift_pay1]
    refine congrArg (fun i : S32.Idx => (fi i : BitVec 32).sshiftRight 2) (funext fun a => ?_)
    match a with
    | 0 => exact Fin.ext (by show 0 + 1 * (y 0).val = (y 0).val; omega)

omit [FloatOps F] in
theorem iPart_read (x : S1024.Idx → BitVec 32) (y : S32.Idx) : (iPartK L).view.read (Elt F) x y = x (at1024 (posOf L y)) := by
  show x _ = x _
  congr 1
  funext a
  match a with
  | 0 =>
    refine Fin.ext ?_
    show k0_off1 L 0 + 1 * (y 0).val = (wid L).val * 32 + (y 0).val
    rw [k0_off1_eq]
    simp [wid]; omega

theorem shift_lt {v : BitVec 32} (h : v.toNat < 100000) : (v.sshiftRight 2).toNat < 25000 := by
  rw [BitVec.sshiftRight_eq_of_msb_false (by rw [BitVec.msb_eq_false_iff_two_mul_lt]; omega), BitVec.toNat_ushiftRight, Nat.shiftRight_eq_div_pow]
  omega

omit [FloatOps F] in
/-- The rows the shifted words name, at the positions the task writes: the value's. -/
theorem gathered_eq (x : S1024.Idx → BitVec 32) (tb : S25000x128.Idx → F .f32) (hx : InRange x) (offs : S32.Idx → BitVec 32)
    (ho : ∀ y, offs y = (x (at1024 (posOf L y))).sshiftRight 2)
    (hin : ∀ y, (offs y).toNat < S25000x128.size gathers_S25000x128_S32x128.axis) (y : S32x128.Idx) :
    SparseCore.gatherPayload (F := F) (e := .f32) gathers_S25000x128_S32x128 ((tAllK).view.read (Elt F) tb)
        (SparseCore.rows (F := F) (si := S32) offs rfl hin) y = packed x tb ((gPartK L).view.emb y) := by
  have hy : (y 0).val < 32 := (y 0).isLt
  have hrow : (gathers_S25000x128_S32x128.idx (SparseCore.rows (F := F) (si := S32) offs rfl hin) y 0).val
      = ((x (at1024 (posOf L (at32 (y 0))))).sshiftRight 2).toNat := by
    refine (congrArg Fin.val (Shape.Gathers.idx_axis gathers_S25000x128_S32x128 (SparseCore.rows (F := F) (si := S32) offs rfl hin) y)).trans ?_
    show (offs (S32.rowMajor.symm _)).toNat = _
    rw [symm32, ho]
    rfl
  have hpos : posOf L (at32 (y 0)) = (gPartK L).view.emb y 0 := by
    refine Fin.ext ?_
    show (wid L).val * 32 + (y 0).val = k0_off2 L 0 + 1 * (y 0).val
    rw [k0_off2_eq]
    simp [wid]; omega
  show tb _ = tb _
  congr 1
  funext a
  match a with
  | 0 =>
    refine Fin.ext ?_
    show 0 + 1 * (gathers_S25000x128_S32x128.idx (SparseCore.rows (F := F) (si := S32) offs rfl hin) y 0).val
      = ((x (at1024 ((gPartK L).view.emb y 0))).sshiftRight 2).toNat % 25000
    rw [hrow, hpos, Nat.mod_eq_of_lt (shift_lt (hx _))]
    omega
  | 1 =>
    refine Fin.ext ?_
    show 0 + 1 * (gathers_S25000x128_S32x128.idx (SparseCore.rows (F := F) (si := S32) offs rfl hin) y 1).val = k0_off2 L 1 + 1 * (y 1).val
    rw [Shape.Gathers.idx_of_ne _ _ _ _ (by decide), k0_off2_eq]
    rfl

omit [FloatOps F] in
/-- The task's rows, written with what `g` holds at them, hold what `g` holds. -/
theorem gPart_written (g₀ g : S1024x128.Idx → F .f32) (w : S32x128.Idx → F .f32) (hw : ∀ y, w y = g ((gPartK L).view.emb y))
    (i : S1024x128.Idx) (hi : i ∈ (gPartK L).view.set) :
    (gPartK L).view.writes (Elt F) g₀ [⟨Rect.whole S32x128, w⟩] i = g i := by
  obtain ⟨y, -, rfl⟩ := Finset.mem_map.mp hi
  have h := congrFun (View.read_writes_whole (gPartK L).view (Val := Elt F) g₀ w) y
  exact h.trans (hw y)

set_option maxHeartbeats 4000000 in
/-- The task's run: its rows of the result are left at `packed`, and what else it was lent is handed back as it was. -/
theorem tile_body (hF : (K (F := F)).Facts) (x : S1024.Idx → BitVec 32) (tb : S25000x128.Idx → F .f32) (g₀ : S1024x128.Idx → F .f32) (hx : InRange x)
    (O : CellTallies nD τ sig (HIx 1)) (W : Waits sig (HIx 1)) (hO : ∀ g, O g none = 0) :
    iprop(levAts (K (F := F)).L (K (F := F)).lev ∗ emp
        ∗ (iPts d (shr (wid L)) x ∗ tPts d (shr (wid L)) tb ∗ gPts d (wid L) g₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather L tV (Memref.isWhole_whole _) iV (Memref.isWhole_whole _) gV (Memref.isWhole_whole _)
            nV (Memref.isWhole_whole _) sV (Memref.isWhole_whole _) rV (Memref.isWhole_whole _) cc0_scratch3 cc0_scoped0 cc0_scoped1)
          fun _ => iprop((iPts d (shr (wid L)) x ∗ tPts d (shr (wid L)) tb ∗ gPts d (wid L) (packed x tb))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_eq_skeleton]; unfold cc0_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Hg⟩, ⟨⟨%fn, Hn⟩, ⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hg' := (Entails.of_eq (pts_gPartK (F := F) d L _).symm) $$ Hg
  ihave Hi' := (Entails.of_eq (pts_iV (F := F) d L _ _).symm) $$ Hi
  ihave Ht' := (Entails.of_eq (pts_tV (F := F) d L _ _).symm) $$ Ht
  ihave Hn' := (Entails.of_eq (pts_nV (F := F) d L _).symm) $$ Hn
  ihave Hs' := (Entails.of_eq (pts_sV (F := F) d L _).symm) $$ Hs
  ihave Hr' := (Entails.of_eq (pts_rV (F := F) d L _).symm) $$ Hr
  sl_exec
  have hoffs : ∀ y, (sV).view.read (Elt F) ((sV).view.writes (Elt F) (sV).view.junk (tile_body.sl.Hs'_2 d L x fn)) y
      = (x (at1024 (posOf L y))).sshiftRight 2 := fun y => by
    unfold tile_body.sl.Hs'_2 tile_body.sl.dma0
    rw [View.write_whole_univ]
    exact (shifted_read d L _ _ y).trans (congrArg (BitVec.sshiftRight · 2) (iPart_read L x y))
  have hin : ∀ y, ((sV).view.read (Elt F) ((sV).view.writes (Elt F) (sV).view.junk (tile_body.sl.Hs'_2 d L x fn)) y).toNat
      < S25000x128.size gathers_S25000x128_S32x128.axis := fun y => by
    rw [hoffs]; exact shift_lt (hx _)
  ihave Hts := (pointsTo_split_subset (ℓ := tLoc d) (q := shr (wid L)) (f := tb) (S := Finset.univ) (Finset.subset_univ (tAllK).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} (sV).view.writes (Elt F) (sV).view.junk (tile_body.sl.Hs'_2 d L x fn) : sProp 𝕄)
      = (sV).view.loc (V d (cV L) (jV L)) ↦[(sV).view.set]{fullShare} (sV).view.writes (Elt F) (sV).view.junk (tile_body.sl.Hs'_2 d L x fn)
      by rw [hss])) $$ Hs'
  have hN : ∀ h : S25000x128.Gathers 0 S32x128, ∑ j, ((rV).slice (S32x128.rowRect h.axis' j) (S32x128.stride_rowRect h.axis' j)).view.dmaCredit
      = (rV).view.dmaCredit := by decide
  iapply (SparseCore.wp_indirectGatherLocal countersEmb 𝒱₀ (V d (cV L) (jV L)) none (hg := gathers_S25000x128_S32x128) (default : HIx 1)
      (rV).view.dmaCredit (hN _) (by decide) hin) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch3.sem)) $$ Hmw
  iintro ⟨⟨Hr', Hts, Hs'⟩, HsemB, HO⟩
  ihave Ht' := (pointsTo_split_subset (ℓ := tLoc d) (q := shr (wid L)) (f := tb) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Ht' Hg']
  · isplitl [Hi']; · iexact Hi'
    isplitl [Ht']; · iexact Ht'
    iapply (Entails.of_eq (pts_gPartK (F := F) d L _))
    iapply (Entails.of_eq (pointsTo_congr (fun i hi => gPart_written L g₀ (packed x tb) (tile_body.sl.dma0_1 d L x tb fn fr hin) (fun y => by
      unfold tile_body.sl.dma0_1
      rw [View.write_whole_univ]
      exact gathered_eq L x tb hx _ hoffs hin y) i hi)))
    iexact Hg'
  isplitl [Hn' Hs3 Hr3 Hbufs]
  · isplitl [Hn']; · iexists _; iexact Hn'
    isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Run

end
-- ==== Proof.Region.lean ====
/-
  The projection on the TensorCore: thirty-two blocks of thirty-two rows, each the block's packed rows selected by the
  indices' low two bits, times the weights, plus the bias. The region is entered with its arrays at any contents `V` and
  left with the result's array at what the blocks, written back in order, make of it.
-/
module

public import proofs.«01_k».proof.Proof.Tile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArrays

@[expose] public section

set_option maxRecDepth 16384

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ
local notation "ι₀" => (none : HIx 1)

/-! ## The blocks the body reads and the block it leaves -/

section Data

variable (V : (c : Dev nD) → (b : Ref sig .tc) → Buf (Elt F) ((c : Thread nD τ).loc b))

/-- The block window `w` holds at point `t`, of its array's entry contents. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev allIdx : Rect S32x1 := Rect.unit (s := S32x1) ![0, 0] S32x1.size inb_S32x1_S32x1_0_0
abbrev allRow : Rect S32x128 := Rect.unit (s := S32x128) ![0, 0] S32x128.size inb_S32x128_S32x128_0_0
abbrev allMat : Rect S32x100000 := Rect.unit (s := S32x100000) ![0, 0] S32x100000.size inb_S32x100000_S32x100000_0_0
abbrev allBias : Rect S1x100000 := Rect.unit (s := S1x100000) ![0, 0] S1x100000.size inb_S1x100000_S1x100000_0_0

/-- The block the body stores, of the blocks it loads. -/
def stored (xi : Vec F S32x1 .i32) (xr : Vec F S32x128 .f32) (xw : Vec F S32x100000 .f32) (xb : Vec F S1x100000 .f32) : Vec F S32x100000 .f32 :=
  View.canon [⟨allMat, k1_pay1 (k1_pay2 (View.ld xi allIdx) (View.ld xr allRow) (View.ld xw allMat)) (k1_pay3 (View.ld xb allBias))⟩]

/-- The one store covers the block. -/
theorem stored_cover (p : Vec F S32x100000 .f32) (y : S32x100000.Idx) :
    ∃ pc ∈ ([⟨allMat, p⟩] : List (View.Piece (Elt F) S32x100000 .f32)), y ∈ pc.1.set :=
  View.cover_of_tiled [⟨allMat, p⟩] S32x100000.size (by rfl) y

set_option maxHeartbeats 1000000 in
/-- The body on any staging buffers: the loaded ones kept, the stored one left at `stored`. -/
theorem body_triple (c : Dev nD) (E : Set ℕ) (i : grid1.Coords)
    (a1 : Memref sig .tc .vmem S32x1 .i32) (h1 : a1.IsWhole) (a2 : Memref sig .tc .vmem S32x128 .f32) (h2 : a2.IsWhole)
    (a3 : Memref sig .tc .vmem S32x100000 .f32) (h3 : a3.IsWhole) (a4 : Memref sig .tc .vmem S1x100000 .f32) (h4 : a4.IsWhole)
    (a5 : Memref sig .tc .vmem S32x100000 .f32) (h5 : a5.IsWhole)
    (xi : Vec F S32x1 .i32) (xr : Vec F S32x128 .f32) (xw : Vec F S32x100000 .f32) (xb : Vec F S1x100000 .f32) (Q : PUnit → sProp 𝕄) :
    iprop(owns (c : Thread nD τ) a1 fullShare xi ∗ owns (c : Thread nD τ) a2 fullShare xr ∗ owns (c : Thread nD τ) a3 fullShare xw
        ∗ owns (c : Thread nD τ) a4 fullShare xb ∗ (∃ d, owns (c : Thread nD τ) a5 fullShare d)
        ∗ (iprop(owns (c : Thread nD τ) a1 fullShare xi ∗ owns (c : Thread nD τ) a2 fullShare xr ∗ owns (c : Thread nD τ) a3 fullShare xw
            ∗ owns (c : Thread nD τ) a4 fullShare xb ∗ owns (c : Thread nD τ) a5 fullShare (stored xi xr xw xb)) -∗ Q ⟨⟩))
      ⊢ wp frame (wpE (defs₀ (F := F)) Variants.none c none) E (cc1__proj_body i a1 h1 a2 h2 a3 h3 a4 h4 a5 h5) Q := by
  simp only [cc1__proj_body_eq_skeleton]; unfold cc1__proj_body_skel
  simp only [k1_part1_eq_skeleton]
  unfold owns
  iintro ⟨⟨%f1, %e1, H1⟩, ⟨%f2, %e2, H2⟩, ⟨%f3, %e3, H3⟩, ⟨%f4, %e4, H4⟩, ⟨%d5, %f5, -, H5⟩, Hk⟩
  subst e1 e2 e3 e4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (stored_cover _)

/-! ## The proof data and the body's obligation -/

/-- The arrays at `V`, each loaded buffer kept at its block, the stored one at `stored` of the four. -/
def dat (c : Dev nD) : Dat τ (Elt F) (HIx 1) ℕ UU ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => stored (blockAt V c 0 t) (blockAt V c 1 t) (blockAt V c 2 t) (blockAt V c 3 t)
  Φ _ := iprop(emp)
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t
    = stored (blockAt V c 0 t) (blockAt V c 1 t) (blockAt V c 2 t) (blockAt V c 3 t) := by dsimp only [dat]

/-- Each loaded buffer holds its block at every point, newly fetched or kept from the last. -/
theorem before_0 (c : Dev nD) (t : Fin cfg1.N) (d) : (dat V c).before 0 t d = blockAt V c 0 t :=
  ((dat V c).before_in_eq_fetched 0 rfl (fun _ => rfl) (fun _ _ _ => rfl) (fun t => by rw [after_0]; unfold Dat.blockOf blockAt; rw [dat_A]) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (fun _ => rfl) (fun _ _ _ => rfl) (fun t => by rw [after_1]; unfold Dat.blockOf blockAt; rw [dat_A]) t d).trans
    (by unfold Dat.fetched Dat.blockOf blockAt; rw [dat_A]; try rfl)
theorem before_2 (c : Dev nD) (t : Fin cfg1.N) (d) : (dat V c).before 2 t d = blockAt V c 2 t :=
  ((dat V c).before_in_eq_fetched 2 rfl (fun _ => rfl) (fun _ _ _ => rfl) (fun t => by rw [after_2]; unfold Dat.blockOf blockAt; rw [dat_A]) t d).trans
    (by unfold Dat.fetched Dat.blockOf blockAt; rw [dat_A]; try rfl)
theorem before_3 (c : Dev nD) (t : Fin cfg1.N) (d) : (dat V c).before 3 t d = blockAt V c 3 t :=
  ((dat V c).before_in_eq_fetched 3 rfl (fun _ => rfl) (fun _ _ _ => rfl) (fun t => by rw [after_3]; unfold Dat.blockOf blockAt; rw [dat_A]) t d).trans
    (by unfold Dat.fetched Dat.blockOf blockAt; rw [dat_A]; try rfl)

/-- What the body is called with at a point. -/
def atEntry (c : Dev nD) (t : Fin cfg1.N) : sProp 𝕄 :=
  iprop((dat V c).Φ t.castSucc ∗ (dat V c).owesAt ι₀ t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What it returns there. -/
def atExit (c : Dev nD) (t : Fin cfg1.N) : sProp 𝕄 :=
  iprop((dat V c).Φ t.succ ∗ (dat V c).owesAt ι₀ t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem body_at (c : Dev nD) (t : Fin cfg1.N) :
    atEntry V c t ⊢ wp frame (wpE (defs₀ (F := F)) Variants.none c none) Set.univ (bodyAt1 t) (fun _ => atExit V c t) := by
  unfold atEntry atExit bodyAt1
  simp only [before_0, before_1, before_2, before_3]
  rw [show (dat V c).Φ t.succ = (dat V c).Φ t.castSucc from rfl,
    show (dat V c).owesAt ι₀ t.succ = (dat V c).owesAt ι₀ t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid1.coords t) _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_label (t : Fin cfg1.N) :
    defs₀ (F := F) .tc cfg1.body (cfg1.bodyArgs t (cfg1.slots t)) = bodyAt1 t := by
  unfold defs₀; try rfl

theorem obligation (c : Dev nD) : BodyObligation (dat V c) (defs₀ (F := F)) Variants.none ι₀ Set.univ := fun t => by
  rw [bigSep_W1, bigSep_W1, body_label]
  exact triple_restated (body_at V c t) rfl .rfl fun _ => .rfl

/-! ## The region -/

abbrev adm : (p : Fin 1) → (pcfgs (F := F) p).Adm := fun p => (cfgs p).toPCfg_adm
abbrev pdats : (p : Fin 1) → (c : Dev nD) → Dat τ (Elt F) (HIx 1) ℕ UU ℕ (Pipeline.pin (pcfgs (F := F)) adm p) c := fun _ c => dat V c

/-- The core waits only on its staging cells, at the lowest level, and owes nothing. -/
theorem cut : Pipeline.LevelCut (pcfgs (F := F)) adm ι₀ (K (F := F)).L (K (F := F)).lev 0 (fun _ : Dev nD => 0) (fun _ => 0) where
  hι _ _ _ := Finset.mem_univ _
  hιb _ _ _ := le_refl 0
  hD _ _ _ h := absurd h (lt_irrefl 0)

theorem obligation_pinned (c : Dev nD) :
    Pipeline.BodyObligationLoose (pdats V 0 c) (defs₀ (F := F)) 𝒱₀ ι₀ Set.univ := (obligation V c).loose

/-- Every scoped buffer of the core is a staging buffer of the region. -/
theorem rest_empty (c : Dev nD) :
    (Pipeline.scopedRest (Pipeline.pin (pcfgs (F := F)) adm 0).spec c : sProp 𝕄) = BI.emp := scopedRest1_eq c

theorem rest_in (c : Dev nD) : iprop(Pipeline.scopedRest (Pipeline.pin (pcfgs (F := F)) adm 0).spec c ∗ emp) ⊢ (pdats V 0 c).Φ 0 :=
  sep_elim_right

theorem rest_out (c : Dev nD) : (pdats V 0 c).Φ (Fin.last (Pipeline.pin (pcfgs (F := F)) adm 0).N)
    ⊢ iprop(Pipeline.scopedRest (Pipeline.pin (pcfgs (F := F)) adm 0).spec c ∗ emp) := by
  rw [rest_empty]
  show iprop(emp) ⊢ iprop(emp ∗ emp)
  iintro -
  isplitr <;> iempintro

/-- The region, entered and left with its arrays. -/
def region : Pipeline.RegionSeg (pcfgs (F := F)) adm (pdats V) ι₀ (defs₀ (F := F)) 𝒱₀ (K (F := F)).L (K (F := F)).lev 0 :=
  Pipeline.RegionSeg.ofArrays (pcfgs (F := F)) adm (pdats V) ι₀ (defs₀ (F := F)) 𝒱₀ (K (F := F)).L (K (F := F)).lev 0 (fun _ => 0)
    (fun _ => iprop(emp)) (fun _ => iprop(emp)) launch1.toP.to₀ rfl (obligation_pinned V) (fun _ _ => rfl) (fun _ => rfl)
    (rest_in V) (rest_out V) (fun _ => 0) cut (fun _ => iprop(emp))

/-! ## The region's step -/

/-- The five arrays, each whole. -/
abbrev fiveArrays (c : Dev nD) (f0 : Buf (Elt F) ((c : Thread nD τ).loc main_v2)) (f1 : Buf (Elt F) ((c : Thread nD τ).loc main_v1))
    (f2 : Buf (Elt F) ((c : Thread nD τ).loc main_arg2)) (f3 : Buf (Elt F) ((c : Thread nD τ).loc main_v3))
    (f4 : Buf (Elt F) ((c : Thread nD τ).loc main_v4)) : sProp 𝕄 :=
  iprop(((c : Thread nD τ).loc main_v2 ↦{fullShare} f0) ∗ ((c : Thread nD τ).loc main_v1 ↦{fullShare} f1)
    ∗ ((c : Thread nD τ).loc main_arg2 ↦{fullShare} f2) ∗ ((c : Thread nD τ).loc main_v3 ↦{fullShare} f3)
    ∗ ((c : Thread nD τ).loc main_v4 ↦{fullShare} f4))

theorem arrays_five (c : Dev nD) (G : (w : Fin 5) → Buf (Elt F) ((c : Thread nD τ).loc (Pipeline.arrRef spec1 w))) :
    (pdats V 0 c).arrays G = fiveArrays c (G 0) (G 1) (G 2) (G 3) (G 4) :=
  (Pipeline.arrays_eq (Pipeline.pin (pcfgs (F := F)) adm) (pdats V) 0 c arr_whole1 ((pdats V 0 c).share_full fun _ => rfl) G).trans
    (bigSep_W1 _)

/-- The array of window `w` after the region. -/
abbrev leftAt (c : Dev nD) (w : Fin cfg1.W) : Buf (Elt F) ((c : Thread nD τ).loc (Pipeline.arrRef spec1 w)) := (dat V c).arrAt w cfg1.N

theorem region_step [∀ e, Nonempty (Elt F e)] (c : Dev nD) {Q : PUnit → sProp 𝕄} :
    iprop((iprop(boundary (c : Thread nD τ) ∗ fiveArrays c (leftAt V c 0) (leftAt V c 1) (leftAt V c 2) (leftAt V c 3) (leftAt V c 4)
          ∗ ∃ W, owes (c : Thread nD τ) 0 W) -∗ Q ⟨⟩)
        ∗ boundary (c : Thread nD τ) ∗ fiveArrays c (V c main_v2) (V c main_v1) (V c main_arg2) (V c main_v3) (V c main_v4)
        ∗ (∃ W, owes (c : Thread nD τ) 0 W) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱₀.lift (c : Thread nD τ) none) Set.univ
          (Prog.lift (.customCall (Pipeline.entry 0) ())) Q := by
  refine BI.Entails.trans ?_ (Pipeline.RegionSeg.wp (pcfgs (F := F)) adm (pdats V) ι₀ cellOf_inj EP (defs₀ (F := F)) 𝒱₀
    (K (F := F)).L (K (F := F)).lev (region V) c none (fun _ h => nomatch h) Prog.ret Q)
  rw [wp_ret, show (region V).pre c = iprop((pdats V 0 c).arrays (fun w => (pdats V 0 c).arrAt w 0) ∗ emp ∗ emp ∗ ∃ W, owes (c : Thread nD τ) 0 W) from rfl,
    show (region V).post c = iprop((pdats V 0 c).arrays (fun w => (pdats V 0 c).arrAt w cfg1.N) ∗ emp ∗ emp ∗ ∃ W, owes (c : Thread nD τ) 0 W) from rfl,
    arrays_five, arrays_five]
  change (_ : sProp 𝕄) ⊢ _
  iintro ⟨Hk, Hb, Ha, Ho, Hl, Hg, Ht⟩
  isplitl [Hk]
  · iintro ⟨Hb, Ha, -, -, Ho⟩
    imodintro
    iapply Hk
    isplitl [Hb]; · iexact Hb
    isplitl [Ha]; · iexact Ha
    iexact Ho
  isplitl [Hb]; · iexact Hb
  isplitl [Ha Ho]
  · isplitl [Ha]; · iexact Ha
    isplitr; · iempintro
    isplitr; · iempintro
    iexact Ho
  isplitl [Hl]; · iexact Hl
  isplitl [Hg]; · iexact Hg
  iexact Ht

end Data

end Cert.Proof.Run

end
-- ==== Proof.Launch.lean ====
/-
  The whole program's run: the table reshaped to rows of four entries, the gather on the thirty-two vector subcores, the
  indices and the bias reshaped, the projection's region. The arguments are kept, and the result is what the region
  leaves of its arrays at those contents.
-/
module

public import proofs.«01_k».proof.Proof.Region

@[expose] public section

noncomputable section

namespace Cert.Proof.Run

open Cert.KernelIdeal Cert.KernelIdeal.Gen

open Idealize.ShloMosaic Idealize.ShloMosaic.Tactic
open Idealize.ShloMosaic.SparseCore (bigSep_insert')
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev 𝒱 : Variants := 𝒱₀.lift
abbrev v₀ : 𝒱.V := Sum.inl none

variable (m : (ℓ : Loc nD τ sig) → Buf (Elt F) ℓ) (ρ : Dev nD → PrngReg)

/-- The TensorCore's thread of a device. -/
abbrev tcT (d : Dev nD) : Thread nD τ := SparseCore.T d

/-! ## The contents the program computes before each of its calls -/

/-- The indices at launch. -/
abbrev idxOf (d : Dev nD) : Buf (Elt F) (iLoc d) := m (iLoc d)

/-- The table as rows of four entries. -/
abbrev tableOf (d : Dev nD) : Buf (Elt F) (tLoc d) :=
  shapeCast S25000x128 (m ((tcT d).loc main_arg1)) shapeCasts_S100000x32_S25000x128

/-- The gathered rows. -/
abbrev rowsOf (d : Dev nD) : Buf (Elt F) (gLoc d) := packed (idxOf m d) (tableOf m d)

/-- The indices as a column and the bias as a row. -/
abbrev columnOf (d : Dev nD) : Buf (Elt F) ((tcT d).loc main_v2) := shapeCast S1024x1 (m ((tcT d).loc main_arg0)) shapeCasts_S1024_S1024x1
abbrev biasOf (d : Dev nD) : Buf (Elt F) ((tcT d).loc main_v3) := shapeCast S1x100000 (m ((tcT d).loc main_arg3)) shapeCasts_S100000_S1x100000

/-- What the proof asks of the launch memory. -/
def PreOK : Prop := ∀ d : Dev nD, InRange (idxOf m d)

/-! ## What the call's handshakes carry -/

theorem nSub_zero : (K (F := F)).nSub 0 = 16 := rfl
theorem nCore_zero : (K (F := F)).nCore 0 = 2 := rfl

/-- The number of the task of subcore `s` of core `c`. -/
def taskNo (c : Fin 2) (s : Fin 16) : Fin 32 := ⟨s.val * 2 + c.val, by have := c.isLt; have := s.isLt; omega⟩

/-- What task `w` is lent, its rows of the result at `g`. -/
abbrev lent (d : Dev nD) (g : Buf (Elt F) (gLoc d)) (w : Fin 32) : sProp 𝕄 :=
  iprop(iPts d (shr w) (idxOf m d) ∗ tPts d (shr w) (tableOf m d) ∗ gPts d w g)

/-- What the tasks of core `c` are lent. -/
abbrev lentCore (d : Dev nD) (g : Buf (Elt F) (gLoc d)) (c : Fin 2) : sProp 𝕄 :=
  bigSep Finset.univ fun i : Fin ((K (F := F)).nSub 0) => lent m d g (taskNo c (Fin.cast nSub_zero i))

def P : (K (F := F)).Pay (nD := nD) (Val := Elt F) (Name := ℕ) (U := UU) where
  st := fun q d c => match q with | 0 => lentCore m d (m (gLoc d)) (Fin.cast nCore_zero c)
  dn := fun q d c => match q with | 0 => lentCore m d (rowsOf m d) (Fin.cast nCore_zero c)
  go := fun q d c i => match q with | 0 => lent m d (m (gLoc d)) (taskNo (Fin.cast nCore_zero c) (Fin.cast nSub_zero i))
  td := fun q d c i => match q with | 0 => lent m d (rowsOf m d) (taskNo (Fin.cast nCore_zero c) (Fin.cast nSub_zero i))
  x := fun _ _ => iprop(emp)

instance P_storable : (P (F := F) m).IsStorable where
  st q d c := match q with
    | 0 => (inferInstance : BI.Storable (upEmb : UEmb _ 𝕄) (lentCore m d (m (gLoc d)) (Fin.cast nCore_zero c)))
  dn q d c := match q with
    | 0 => (inferInstance : BI.Storable (upEmb : UEmb _ 𝕄) (lentCore m d (rowsOf m d) (Fin.cast nCore_zero c)))
  go q d c i := match q with
    | 0 => (inferInstance : BI.Storable (upEmb : UEmb _ 𝕄) (lent m d (m (gLoc d)) (taskNo (Fin.cast nCore_zero c) (Fin.cast nSub_zero i))))
  td q d c i := match q with
    | 0 => (inferInstance : BI.Storable (upEmb : UEmb _ 𝕄) (lent m d (rowsOf m d) (taskNo (Fin.cast nCore_zero c) (Fin.cast nSub_zero i))))

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          (Memref.whole main_v0_scv) (Memref.isWhole_whole _) (Memref.whole main_arg0_scv) (Memref.isWhole_whole _)
          (Memref.whole main_v1_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (idxOf m d) (tableOf m d) (m (gLoc d)) (hpre d) O W hO).trans
    (wp_mono frame _ _ fun _ => obl_post)

/-- A core's operands are its tasks', and back. -/
theorem vecSplit : (K (F := F)).VecSplit' (P m) 0 := by
  intro d c
  show lentCore m d (m (gLoc d)) (Fin.cast nCore_zero c) ⊢ |={Set.univ}=> iprop(lentCore m d (m (gLoc d)) (Fin.cast nCore_zero c)
    ∗ (lentCore m d (rowsOf m d) (Fin.cast nCore_zero c) -∗ lentCore m d (rowsOf m d) (Fin.cast nCore_zero c)))
  iintro H; imodintro
  isplitl [H]; · iexact H
  iintro H; iexact H

/-! ## The arrays split among the tasks and join again -/

theorem gSet_eq (w : Fin 32) : gSet w = (gRow w).set := by
  show ((View.whole (main_v1_scv : Ref sig .scVector)).slice (gRow w)).set = _
  rw [View.set_slice]; exact Finset.map_refl
theorem gSets_disjoint : ∀ i ∈ (Finset.univ : Finset (Fin 32)), ∀ j ∈ (Finset.univ : Finset (Fin 32)), i ≠ j → Disjoint (gSet i) (gSet j) :=
  fun i _ j _ h => by rw [gSet_eq, gSet_eq]; exact Rect.part_disjoint gdiv h
theorem gSets_cover : (Finset.univ : Finset (Fin 32)).biUnion gSet = Finset.univ :=
  (Finset.biUnion_congr rfl fun i _ => gSet_eq i).trans (Rect.biUnion_part gdiv)

theorem g_rows (d : Dev nD) (f : Buf (Elt F) (gLoc d)) :
    (gLoc d ↦{fullShare} f : sProp 𝕄) = bigSep Finset.univ fun w : Fin 32 => gPts d w f := by
  rw [← pointsTo_biUnion Finset.univ (ℓ := gLoc d) gSet gSets_disjoint, gSets_cover]; try rfl
theorem i_shares (d : Dev nD) (f : Buf (Elt F) (iLoc d)) :
    (iLoc d ↦{fullShare} f : sProp 𝕄) = bigSep Finset.univ fun w : Fin 32 => iPts d (shr w) f :=
  pointsTo_piecesOf (ℓ := iLoc d) Finset.univ f (by decide) fullShare
theorem t_shares (d : Dev nD) (f : Buf (Elt F) (tLoc d)) :
    (tLoc d ↦{fullShare} f : sProp 𝕄) = bigSep Finset.univ fun w : Fin 32 => tPts d (shr w) f :=
  pointsTo_piecesOf (ℓ := tLoc d) Finset.univ f (by decide) fullShare

/-- The tasks, by core and subcore, are the numbers below 32. -/
theorem tasks_all (Φ : Fin 32 → sProp 𝕄) :
    (bigSep Finset.univ fun c : Fin ((K (F := F)).nCore 0) => bigSep Finset.univ fun i : Fin ((K (F := F)).nSub 0) =>
      Φ (taskNo (Fin.cast nCore_zero c) (Fin.cast nSub_zero i))) = bigSep Finset.univ Φ := by
  show (bigSep Finset.univ fun c : Fin 2 => bigSep Finset.univ fun i : Fin 16 => Φ (taskNo c i)) = _
  rw [BI.bigSep_univ_comm, ← BI.bigSep_univ_prod (fun p : Fin 16 × Fin 2 => Φ (taskNo p.2 p.1)),
    BI.bigSep_univ_equiv (finProdFinEquiv : Fin 16 × Fin 2 ≃ Fin 32) Φ]
  refine bigSep_congr fun p _ => congrArg Φ (Fin.ext ?_)
  show p.1.val * 2 + p.2.val = p.2.val + 2 * p.1.val
  omega

/-- The indices, the table and the result whole are what the tasks are lent. -/
theorem lent_all (d : Dev nD) (g : Buf (Elt F) (gLoc d)) :
    (bigSep Finset.univ fun c : Fin ((K (F := F)).nCore 0) => lentCore m d g (Fin.cast nCore_zero c))
      = iprop((iLoc d ↦{fullShare} idxOf m d) ∗ (tLoc d ↦{fullShare} tableOf m d) ∗ (gLoc d ↦{fullShare} g)) := by
  rw [i_shares, t_shares, g_rows, ← bigSep_sep', ← bigSep_sep']
  exact tasks_all (F := F) (fun w => lent m d g w)

/-! ## The launch element of the ghost state -/

abbrev pinned : Fin 1 → Pipeline.Cfg sig Λ₀ := Pipeline.pin (pcfgs (F := F)) adm

def u₀ : UU := (initOf (K (F := F)).hsCells (K (F := F)).hsToks,
  (initOf (Pipeline.cells (pinned (F := F)) cellOf_inj) (Pipeline.launchToks (pinned (F := F)) cellOf_inj), 1))

/-- What a device's region starts from: its cells' invariants to be, and its duties' tokens. -/
abbrev regionGhost (d : Dev nD) : sProp 𝕄 :=
  iprop(Pipeline.cellsGhost (pinned (F := F)) EP 0 d ∗ Pipeline.toksInit (pinned (F := F)) EP 0 d)

theorem region_ghost_fund : (BI.own (EP (initOf (Pipeline.cells (pinned (F := F)) cellOf_inj) (Pipeline.launchToks (pinned (F := F)) cellOf_inj))) : sProp 𝕄)
    ⊢ iprop(|==> bigSep Finset.univ fun d : Dev nD => regionGhost (F := F) d) := by
  have h (Φ : Fin 1 → Dev nD → sProp 𝕄) : (bigSep Finset.univ fun d : Dev nD => bigSep Finset.univ fun p => Φ p d) = bigSep Finset.univ fun d => Φ 0 d :=
    bigSep_congr fun d _ => bigSep_univ_of_subsingleton (0 : Fin 1)
  have hf := Pipeline.fund_ghost (nD := nD) (τ := τ) (pinned (F := F)) (EP (F := F)) cellOf_inj
  rw [h, h, ← bigSep_sep'] at hf
  exact hf

theorem no_extra : (bigSep Finset.univ fun thr : Thread nD τ => bigSep Finset.univ fun q : Fin 1 => (P (F := F) m).x q thr) = (iprop(emp) : sProp 𝕄) :=
  (bigSep_congr fun _ _ => bigSep_univ_of_subsingleton (0 : Fin 1)).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => regionGhost (F := F) d)
        ∗ bigSep Finset.univ fun thr : Thread nD τ => bigSep Finset.univ fun q : Fin 1 => (P m).x q thr) := by
  unfold u₀
  rw [no_extra]
  iintro Hu
  ihave H := (ownU_pair (initOf (K (F := F)).hsCells (K (F := F)).hsToks)
    (initOf (Pipeline.cells (pinned (F := F)) cellOf_inj) (Pipeline.launchToks (pinned (F := F)) cellOf_inj), (1 : Counters))) $$ Hu
  icases H with ⟨HH, HR⟩
  ihave H := (own_pair_emb embR (initOf (Pipeline.cells (pinned (F := F)) cellOf_inj) (Pipeline.launchToks (pinned (F := F)) cellOf_inj)) (1 : Counters)) $$ HR
  icases H with ⟨HP, -⟩
  imod region_ghost_fund $$ HP with HG
  imodintro
  isplitl [HH]; · iexact HH
  isplitl [HG]; · iexact HG
  iempintro

/-! ## @main on the TensorCore -/

/-- A buffer of the TensorCore whole. -/
abbrev atT (d : Dev nD) (b : Ref sig .tc) (f : Buf (Elt F) ((tcT d).loc b)) : sProp 𝕄 := (tcT d).loc b ↦{fullShare} f

theorem unscopedBufs_eq (d : Dev nD) (W : (b : Ref sig .tc) → Buf (Elt F) ((d.tc : Thread nD τ).loc b)) :
    (unscopedBufs d W : sProp 𝕄) = iprop(atT d main_arg0 (W main_arg0) ∗ atT d main_arg1 (W main_arg1) ∗ atT d main_arg2 (W main_arg2)
      ∗ atT d main_arg3 (W main_arg3) ∗ atT d main_v0 (W main_v0) ∗ atT d main_v1 (W main_v1) ∗ atT d main_v2 (W main_v2)
      ∗ atT d main_v3 (W main_v3) ∗ atT d main_v4 (W main_v4)) := by
  unfold unscopedBufs
  rw [show (Finset.univ.filter fun b : Ref sig .tc => ¬ b.isScoped)
      = {main_arg0, main_arg1, main_arg2, main_arg3, main_v0, main_v1, main_v2, main_v3, main_v4} by decide,
    bigSep_insert' (by decide), bigSep_insert' (by decide), bigSep_insert' (by decide), bigSep_insert' (by decide),
    bigSep_insert' (by decide), bigSep_insert' (by decide), bigSep_insert' (by decide), bigSep_insert' (by decide), bigSep_singleton]

/-- A reshape on the TensorCore, of an array at its launch contents into another. -/
theorem reshape_step (d : Dev nD) (x y : Ref sig .tc) (hxy : x ≠ y) (he : x.ty.elt = y.ty.elt) (hn : x.ty.shape.ShapeCasts y.ty.shape)
    (hx : x.space ≠ .host ∧ (Proc.devRef (τ := τ) .tc x).isScoped = false) (hy : y.space ≠ .host ∧ (Proc.devRef (τ := τ) .tc y).isScoped = false)
    {Q : PUnit → sProp 𝕄} :
    iprop(boundary (tcT d) ∗ atT d x (m ((tcT d).loc x)) ∗ atT d y (m ((tcT d).loc y)))
      ⊢ iprop((iprop(boundary (tcT d) ∗ atT d x (m ((tcT d).loc x)) ∗ atT d y (fun i => he ▸ shapeCast y.ty.shape (m ((tcT d).loc x)) hn i)) -∗ Q ⟨⟩)
        -∗ wp frame (wpE ((K (F := F)).defs (D (F := F))) 𝒱 (tcT d) none) Set.univ
          (hlo rfl (StableHlo.reshape x y he hn hx hy) (fun _ => .ret ⟨⟩)) Q) := by
  have hne : Proc.devRef (τ := τ) .tc x ≠ Proc.devRef .tc y := StableHlo.devRef_ne_of_ne hxy
  have h0 : (StableHlo.held (tcT d) {Proc.devRef .tc x, Proc.devRef .tc y} (fun b => m (d, b)) : sProp 𝕄)
      = iprop(atT d x (m ((tcT d).loc x)) ∗ atT d y (m ((tcT d).loc y))) := by
    unfold StableHlo.held
    rw [bigSep_insert' (by rw [Finset.mem_singleton]; exact hne), bigSep_singleton]
  have h1 : (StableHlo.held (tcT d) {Proc.devRef .tc x, Proc.devRef .tc y}
        ((StableHlo.reshape x y he hn hx hy : HloOp τ sig (Elt F)).result (fun b => m (d, b))) : sProp 𝕄)
      = iprop(atT d x (m ((tcT d).loc x)) ∗ atT d y (fun i => he ▸ shapeCast y.ty.shape (m ((tcT d).loc x)) hn i)) := by
    unfold StableHlo.held
    rw [bigSep_insert' (by rw [Finset.mem_singleton]; exact hne), bigSep_singleton, StableHlo.reshape_result_ne x y he hn hx hy _ hxy,
      StableHlo.reshape_result x y he hn hx hy]
  have hw := StableHlo.wp_hlo_within (defs := (K (F := F)).defs (D (F := F))) (𝒱 := 𝒱) (c := (tcT d)) (bd := none) (E := Set.univ) (hp := rfl)
    (op := (StableHlo.reshape x y he hn hx hy : HloOp τ sig (Elt F))) (k := fun _ => .ret ⟨⟩)
    (S := {Proc.devRef .tc x, Proc.devRef .tc y}) (le_of_eq (StableHlo.reshape_bufs x y he hn hx hy)) (V := fun b => m (d, b)) (Q := Q) rfl
  rw [h0, h1] at hw
  iintro ⟨Hb, Hx, Hy⟩ Hk
  iapply hw $$ [Hb Hx Hy]
  · isplitl [Hb]; · iexact Hb
    isplitl [Hx] <;> iassumption
  iintro ⟨Hb, Hx, Hy⟩
  rw [wp_ret]
  imodintro
  iapply Hk
  isplitl [Hb]; · iexact Hb
  isplitl [Hx] <;> iassumption

/-- The arrays as the region is entered. -/
def entryOf (d : Dev nD) : (b : Ref sig .tc) → Buf (Elt F) ((tcT d).loc b) :=
  Function.update (Function.update (Function.update (fun b => m ((tcT d).loc b)) main_v1 (rowsOf m d)) main_v2 (columnOf m d)) main_v3 (biasOf m d)

theorem entry_rows (d : Dev nD) : entryOf m d main_v1 = rowsOf m d := by
  unfold entryOf
  rw [Function.update_of_ne (by decide), Function.update_of_ne (by decide), Function.update_self]
theorem entry_column (d : Dev nD) : entryOf m d main_v2 = columnOf m d := by
  unfold entryOf
  rw [Function.update_of_ne (by decide), Function.update_self]
theorem entry_bias (d : Dev nD) : entryOf m d main_v3 = biasOf m d := by
  unfold entryOf
  rw [Function.update_self]
theorem entry_weights (d : Dev nD) : entryOf m d main_arg2 = m ((tcT d).loc main_arg2) := by
  unfold entryOf
  rw [Function.update_of_ne (by decide), Function.update_of_ne (by decide), Function.update_of_ne (by decide)]
theorem entry_result (d : Dev nD) : entryOf m d main_v4 = m ((tcT d).loc main_v4) := by
  unfold entryOf
  rw [Function.update_of_ne (by decide), Function.update_of_ne (by decide), Function.update_of_ne (by decide)]

/-- The result: its array after the region. -/
abbrev resultOf (d : Dev nD) : Buf (Elt F) ((tcT d).loc main_v4) := leftAt (entryOf m) d 4

theorem left_weights (d : Dev nD) : leftAt (entryOf m) d 2 = m ((tcT d).loc main_arg2) :=
  ((dat (entryOf m) d).arrAt_in 2 rfl _).trans ((dat_A (entryOf m) d 2).trans (entry_weights m d))

/-- What the core owes between calls, taken out of its state after the call and put back. -/
theorem state_open (d : Dev nD) : ((K (F := F)).tcSt EH d 1 : sProp 𝕄)
    ⊢ iprop((∃ W, owes (tcT d) 0 W) ∗ ((∃ W, owes (tcT d) 0 W) -∗ (K (F := F)).tcSt EH d 1)) := by
  have hlev (p : SemLoc sig × HIx 1) : (K (F := F)).lev (tcT d, p.1) p.2 ≤ 8 * 1 := by
    match h : p.2 with
    | none => exact Nat.zero_le _
    | some q => exact ((K (F := F)).lev_some_le _ q).trans (by have := q.isLt; omega)
  unfold SparseCore.Cfg.tcSt
  rw [(K (F := F)).Otc_end d le_rfl]
  iintro ⟨⟨%W, -, HO⟩, Hrest⟩
  isplitl [HO]; · iexists W; iexact HO
  iintro ⟨%W', HO⟩
  isplitl [HO]
  · iexists W'; isplitr; · ipureintro; exact fun p _ => hlev p
    iexact HO
  iexact Hrest

/-- The region's call as the whole program makes it. -/
theorem region_call [∀ e, Nonempty (Elt F e)] (d : Dev nD) {Q : PUnit → sProp 𝕄} :
    iprop((iprop(boundary (tcT d) ∗ fiveArrays d (leftAt (entryOf m) d 0) (leftAt (entryOf m) d 1) (leftAt (entryOf m) d 2) (leftAt (entryOf m) d 3) (resultOf m d)
          ∗ ∃ W, owes (tcT d) 0 W) -∗ Q ⟨⟩)
        ∗ boundary (tcT d) ∗ fiveArrays d (columnOf m d) (rowsOf m d) (m ((tcT d).loc main_arg2)) (biasOf m d) (m ((tcT d).loc main_v4))
        ∗ (∃ W, owes (tcT d) 0 W) ∗ levAts (K (F := F)).L (K (F := F)).lev ∗ regionGhost d)
      ⊢ wp frame (wpE ((K (F := F)).defs (D (F := F))) 𝒱 (tcT d) none) Set.univ
          (Prog.lift (.customCall (SparseCore.inner (Pipeline.entry 0)) ())) Q := by
  rw [← entry_rows m, ← entry_column m, ← entry_bias m, ← entry_weights m, ← entry_result m]
  exact (region_step (entryOf m) d).trans ((K (F := F)).wp_liftProg (D (F := F)) 𝒱 (tcT d) Set.univ none (Prog.lift (.customCall (Pipeline.entry 0) ())) Q)

/-- What @main leaves: the arguments as they were, the result. -/
abbrev FIN (d : Dev nD) : sProp 𝕄 :=
  iprop(atT d main_arg0 (m ((tcT d).loc main_arg0)) ∗ atT d main_arg1 (m ((tcT d).loc main_arg1)) ∗ atT d main_arg2 (m ((tcT d).loc main_arg2))
    ∗ atT d main_arg3 (m ((tcT d).loc main_arg3)) ∗ atT d main_v4 (resultOf m d))

theorem call_takes (d : Dev nD) : (bigSep Finset.univ fun c : Fin ((K (F := F)).nCore 0) => (P m).st 0 d c)
    = iprop((iLoc d ↦{fullShare} idxOf m d) ∗ (tLoc d ↦{fullShare} tableOf m d) ∗ (gLoc d ↦{fullShare} m (gLoc d))) := lent_all m d _
theorem call_gives (d : Dev nD) : (bigSep Finset.univ fun c : Fin ((K (F := F)).nCore 0) => (P m).dn 0 d c)
    = iprop((iLoc d ↦{fullShare} idxOf m d) ∗ (tLoc d ↦{fullShare} tableOf m d) ∗ (gLoc d ↦{fullShare} rowsOf m d)) := lent_all m d _

set_option maxRecDepth 16384 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ regionGhost d)
      ⊢ wp frame (wpE ((K (F := F)).defs (D (F := F))) 𝒱 (tcT d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, Ha3, Hv0, Hv1, Hv2, Hv3, Hv4⟩, Hts, -⟩, Hg⟩
  iapply (reshape_step m d main_arg1 main_v0 (by decide) _ _ _ _) $$ [Hb Ha1 Hv0]
  · isplitl [Hb]; · iexact Hb
    isplitl [Ha1] <;> iassumption
  iintro ⟨Hb, Ha1, Hv0⟩
  iapply ((K (F := F)).wp_run (D (F := F)) 𝒱 (EH := EH) (P := P m) κ d 0) $$ [Hst Ha0 Ha1 Ha2 Ha3 Hv0 Hv1 Hv2 Hv3 Hv4 Hb Hts Hg]
  isplitr; · iexact Hctx
  isplitl [Hst]; · iexact Hst
  isplitl [Ha0 Hv0 Hv1]
  · rw [call_takes]
    isplitl [Ha0]; · iexact Ha0
    isplitl [Hv0]; · iexact Hv0
    iexact Hv1
  iintro ⟨Hst, Hdn⟩
  ihave Hdn' := (Entails.of_eq (call_gives m d)) $$ Hdn
  icases Hdn' with ⟨Ha0, Hv0, Hv1⟩
  iapply (reshape_step m d main_arg0 main_v2 (by decide) _ _ _ _) $$ [Hb Ha0 Hv2]
  · isplitl [Hb]; · iexact Hb
    isplitl [Ha0] <;> iassumption
  iintro ⟨Hb, Ha0, Hv2⟩
  iapply (reshape_step m d main_arg3 main_v3 (by decide) _ _ _ _) $$ [Hb Ha3 Hv3]
  · isplitl [Hb]; · iexact Hb
    isplitl [Ha3] <;> iassumption
  iintro ⟨Hb, Ha3, Hv3⟩
  ihave Hlv := ((K (F := F)).ctx_levAts κ) $$ Hctx
  ihave Hst' := (show ((K (F := F)).tcSt EH d ((0 : Fin 1).val + 1) : sProp 𝕄) ⊢ _ from state_open (F := F) d) $$ Hst
  icases Hst' with ⟨HO, Hst⟩
  iapply (region_call m d)
  isplitr [Hb Hv2 Hv1 Ha2 Hv3 Hv4 HO Hlv Hg]
  · iintro ⟨Hb, ⟨-, -, Ha2, -, Hv4⟩, HO⟩
    imodintro
    isplitl [Hst HO]; · iapply Hst; iexact HO
    isplitr [Hb Hts]
    · isplitl [Ha0]; · iexact Ha0
      isplitl [Ha1]; · iexact Ha1
      isplitl [Ha2]; · rw [← left_weights m d]; iexact Ha2
      isplitl [Ha3]; · iexact Ha3
      iexact Hv4
    isplitl [Hb] <;> iassumption
  isplitl [Hb]; · iexact Hb
  isplitl [Hv2 Hv1 Ha2 Hv3 Hv4]
  · isplitl [Hv2]; · iexact Hv2
    isplitl [Hv1]; · iexact Hv1
    isplitl [Ha2]; · iexact Ha2
    isplitl [Hv3]; · iexact Hv3
    iexact Hv4
  isplitl [HO]; · iexact HO
  isplitl [Hlv]; · iexact Hlv
  iexact Hg

/-! ## The run -/

/-- What a device's memory holds at the end. -/
abbrev Holds (d : Dev nD) (μ : (ℓ : Loc nD τ sig) → Buf (Elt F) ℓ) : Prop :=
  μ ((tcT d).loc main_arg0) = m ((tcT d).loc main_arg0) ∧ μ ((tcT d).loc main_arg1) = m ((tcT d).loc main_arg1)
    ∧ μ ((tcT d).loc main_arg2) = m ((tcT d).loc main_arg2) ∧ μ ((tcT d).loc main_arg3) = m ((tcT d).loc main_arg3)
    ∧ μ ((tcT d).loc main_v4) = resultOf m d

theorem read_whole (d : Dev nD) (b : Ref sig .tc) (f : Buf (Elt F) ((tcT d).loc b)) (s' : Phys nD τ sig (Elt F)) :
    iprop(SI s' ∗ atT d b f) ⊢ (iprop(⌜s'.mem.mem ((tcT d).loc b) = f⌝ ∗ SI s') : sProp 𝕄) := by
  iintro H
  ihave H := (persistent_entails_right (SI_pointsTo_agree (st := s') (ℓ := (tcT d).loc b) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜Holds m d s'.mem.mem⌝ : sProp 𝕄) := by
  iintro ⟨⟨H0, H1, H2, H3, H4⟩, HSI⟩
  ihave H := (read_whole d main_arg0 _ s') $$ [HSI H0]; · isplitl [HSI] <;> iassumption
  icases H with ⟨%h0, HSI⟩
  ihave H := (read_whole d main_arg1 _ s') $$ [HSI H1]; · isplitl [HSI] <;> iassumption
  icases H with ⟨%h1, HSI⟩
  ihave H := (read_whole d main_arg2 _ s') $$ [HSI H2]; · isplitl [HSI] <;> iassumption
  icases H with ⟨%h2, HSI⟩
  ihave H := (read_whole d main_arg3 _ s') $$ [HSI H3]; · isplitl [HSI] <;> iassumption
  icases H with ⟨%h3, HSI⟩
  ihave H := (read_whole d main_v4 _ s') $$ [HSI H4]; · isplitl [HSI] <;> iassumption
  icases H with ⟨%h4, -⟩
  ipureintro; exact ⟨h0, h1, h2, h3, h4⟩

/-- The run's conclusion: each device's memory as `Holds` says, every semaphore counter at zero. -/
def Ends : PUnit × MemSt nD τ sig (Elt F) → Prop := fun r => (∀ d : Dev nD, Holds m d r.2.mem) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => regionGhost d) (FIN m) (u₀ (F := F)) (sep_elim_left.trans (hu₀ m)) (hmain m ρ)
    (fun d s' => Holds m d s'.mem.mem) (hfin m) (Ends m) (fun _ h hz => ⟨h, hz⟩)

end Cert.Proof.Run

end
-- ==== Proof.Frames.lean ====
/-
  The claims that the programs run and keep their arguments. The kernel's two readings have the same text, so the one
  run gives both; the precondition is read back as a bound on every index.
-/
module

public import proofs.«01_k».proof.Proof.Launch
public import proofs.«01_k».proof.Proof.Gen.Kernel
public import proofs.«01_k».proof.Proof.Gen.Pre_in_range
public import proofs.«01_k».proof.Proof.Gen.ReferenceIdeal.Run
public import Idealize.ShloMosaic.Lib.ReduceAll

@[expose] public section

noncomputable section

namespace Cert.Proof

open Idealize.ShloMosaic Idealize.SL.Sem

/-! ## The precondition read back -/

/-- A word that is at least zero and below 100000 as a signed number names a row of the table. -/
theorem word_in_range (v : BitVec 32) (e : IntOp.andi (IntOp.cmpi .sge v 0#32) (IntOp.cmpi .slt v 100000#32) = 1#1) : v.toNat < 100000 := by
  obtain ⟨h0, h1⟩ := IntOp.andi_eq_one.1 e
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

instance : Subsingleton Cert.Pre_in_range.S_.Idx := ⟨fun _ _ => funext fun a => a.elim0⟩

/-- Where the precondition's function is one, every index names a row of the table. -/
theorem in_range_of_pre {F : FTy → Type} [FloatOps F] (x : IVec Cert.Pre_in_range.S1024 32) (e : FVec F Cert.Pre_in_range.S100000x32 .f32)
    (w : FVec F Cert.Pre_in_range.S32x100000 .f32) (b : FVec F Cert.Pre_in_range.S100000 .f32)
    (h : Cert.Pre_in_range.fn x e w b = fun _ => 1#1) (j : Cert.Pre_in_range.S1024.Idx) : (x j).toNat < 100000 := by
  have h' := congrFun h (fun a => a.elim0)
  dsimp only [Cert.Pre_in_range.fn] at h'
  exact word_in_range _ (Host.reduce_andi_all _ _ _ _ _ h' j)

/-- The claims' precondition is what the run asks of the launch memory: as printed, -/
theorem ok_kernel (m : (ℓ : Loc Cert.Kernel.nD Cert.Kernel.τ Cert.Kernel.sig) → Buf (Elt Bits) ℓ) (h : Cert.Pre_Kernel m) :
    Run.PreOK (F := Bits) m := fun d j => in_range_of_pre _ _ _ _ (h d) j

/-- and over the extended reals. -/
theorem ok_ideal (m : (ℓ : Loc Cert.KernelIdeal.nD Cert.KernelIdeal.τ Cert.KernelIdeal.sig) → Buf (Elt Ideal) ℓ) (h : Cert.Pre_KernelIdeal m) :
    Run.PreOK (F := Ideal) m := fun d j => in_range_of_pre _ _ _ _ (h d) j

/-! ## The frames -/

/-- The two readings' tables of bodies agree, label by label. -/
theorem bodies_eq : (Cert.Kernel.defs₀ (F := Bits) :
    Defs Cert.KernelIdeal.nD Cert.KernelIdeal.τ Cert.KernelIdeal.sig (Elt Bits) Cert.KernelIdeal.Λ₀) = Cert.KernelIdeal.defs₀ := by
  funext p ℓ a
  match p, ℓ, a with
  | .tc, 0, _ => rfl
  | .tc, 1, _ => rfl
  | .scVector _ _, 0, _ => rfl
  | .scVector _ _, 1, _ => rfl
  | .scScalar _, 0, _ => rfl
  | .scScalar _, 1, _ => rfl

/-- So the two programs' whole tables of bodies agree. -/
theorem defs_eq : (Cert.Kernel.defs (F := Bits) : Defs Cert.KernelIdeal.nD Cert.KernelIdeal.τ Cert.KernelIdeal.sig (Elt Bits)
    (SparseCore.Sig (Pipeline.Sig Cert.KernelIdeal.Λ₀ (Fin 1) fun p => (Cert.KernelIdeal.pcfgs (F := Bits) p).Adm) 1)) = Cert.KernelIdeal.defs :=
  congrArg (fun D => (Cert.KernelIdeal.sc (F := Bits)).defs (Pipeline.defs Cert.KernelIdeal.pcfgs D)) bodies_eq

/-- The kernel as printed runs and keeps its arguments: its own reading of the one run. -/
theorem frame_kernel : Cert.quiescent_Kernel := by
  intro m ρ hpre
  have h := Run.run_main (F := Bits) m ρ (ok_kernel m hpre)
  rw [← defs_eq] at h
  exact (θ_run Cert.Kernel.defs _ _).mono (fun _ h => ⟨fun c => ⟨(h.1 c).1, (h.1 c).2.1, (h.1 c).2.2.1, (h.1 c).2.2.2.1⟩, h.2⟩) h

/-- The kernel over the extended reals runs and keeps its arguments. -/
theorem frame_ideal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (Run.run_main (F := Ideal) m ρ (ok_ideal m hpre))

/-- The reference runs and keeps its arguments, whatever the indices, -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- and so it does for indices in range. -/
theorem frame_reference_pre : Cert.quiescent_ReferenceIdeal_pre_in_range := fun m ρ _ =>
  frame_reference m ρ trivial

end Cert.Proof

end
-- ==== Proof.Value.lean ====
/-
  What the kernel computes, over the extended reals: element `(r, v)` of the result is the sum over `k` of entry `k` of
  the embedding that index `r` names times weight `(k, v)`, plus bias `v`.
-/
module

public import proofs.«01_k».proof.Proof.Launch
public import Idealize.ShloMosaic.Lib.Pointwise
public import Idealize.ShloMosaic.Lib.Pipeline.ValueKit

@[expose] public section

set_option maxRecDepth 16384

noncomputable section

namespace Cert.Proof.Run

open Cert.KernelIdeal Cert.KernelIdeal.Gen
open Idealize.ShloMosaic Idealize.ShloMosaic.TcCoe
open Idealize.ShloMosaic.Pipeline (Dat)

/-! ## One block -/

/-- The lane of a packed row that holds element `k` of the entry of index `v`: a row is four entries, and the index's
    low two bits say which. -/
def laneOf (v : BitVec 32) (k : Fin 32) : Fin 128 := ⟨32 * (v.toNat % 4) + k.val, by have := k.isLt; omega⟩

/-- The low two bits, as a number. -/
theorem low_bits (v : BitVec 32) : (IntOp.andi v 3#32).toNat = v.toNat % 4 := by
  show (v &&& 3#32).toNat = _
  rw [BitVec.toNat_and]
  exact Nat.and_two_pow_sub_one_eq_mod v.toNat 2

/-- The index's low two bits are one of four words, each the number it holds. -/
theorem low_word (v : BitVec 32) : IntOp.andi v 3#32 = BitVec.ofNat 32 (v.toNat % 4) :=
  BitVec.eq_of_toNat_eq (by rw [low_bits, BitVec.toNat_ofNat]; omega)

/-- Of the four quarters of a row, each kept where the low bits are its number and zero elsewhere, the sum is the one
    the index names. -/
theorem quarters (v : BitVec 32) (f : Fin 128 → EReal) (k : Fin 32) :
    Scalar.select (IntOp.cmpi .eq (IntOp.andi v 3#32) 0#32) (f ⟨k.val, by omega⟩) (0 : EReal)
      + Scalar.select (IntOp.cmpi .eq (IntOp.andi v 3#32) 1#32) (f ⟨32 + k.val, by omega⟩) 0
      + Scalar.select (IntOp.cmpi .eq (IntOp.andi v 3#32) 2#32) (f ⟨64 + k.val, by omega⟩) 0
      + Scalar.select (IntOp.cmpi .eq (IntOp.andi v 3#32) 3#32) (f ⟨96 + k.val, by omega⟩) 0 = f (laneOf v k) := by
  have h : v.toNat % 4 = 0 ∨ v.toNat % 4 = 1 ∨ v.toNat % 4 = 2 ∨ v.toNat % 4 = 3 := by omega
  rw [low_word]
  rcases h with h | h | h | h <;> simp [laneOf, h, Scalar.select, IntOp.cmpi]

/-- One element of the block the body stores. -/
theorem payload_apply (xi : Vec Ideal S32x1 .i32) (xr : Vec Ideal S32x128 .f32) (xw : Vec Ideal S32x100000 .f32) (xb : Vec Ideal S1x100000 .f32)
    (r : Fin 32) (v : Fin 100000) :
    k1_pay1 (k1_pay2 xi xr xw) (k1_pay3 xb) (ix2 r v)
      = (∑ k : Fin 32, xr (ix2 r (laneOf (xi (ix2 r 0)) k)) * xw (ix2 k v)) + xb (ix2 0 v) := by
  pointwise [k1_pay1, k1_pay2, k1_pay3]
  refine congrArg (· + xb (ix2 0 v)) (Finset.sum_congr rfl fun k _ => ?_)
  exact congrArg (· * xw (ix2 k v)) (quarters (xi (ix2 r 0)) (fun l => xr (ix2 r l)) k)

/-- One element of the block that the staging buffer holds after the body. -/
theorem stored_apply (xi : Vec Ideal S32x1 .i32) (xr : Vec Ideal S32x128 .f32) (xw : Vec Ideal S32x100000 .f32) (xb : Vec Ideal S1x100000 .f32)
    (y : S32x100000.Idx) :
    stored xi xr xw xb y
      = (∑ k : Fin 32, xr (ix2 (y 0) (laneOf (xi (ix2 (y 0) 0)) k)) * xw (ix2 k (y 1))) + xb (ix2 0 (y 1)) := by
  have z : (![0, 0] : Fin 2 → Nat) = fun _ => 0 := by decide
  unfold stored
  rw [View.canon_unit_zero z, View.ld_unit_zero z, View.ld_unit_zero z, View.ld_unit_zero z, View.ld_unit_zero z]
  exact (congrArg _ (eq_ix2 y)).trans (payload_apply xi xr xw xb (y 0) (y 1))

/-! ## The whole result, of the arrays the region is entered with -/

/-- The projection of packed rows: the indices a column, the bias a row. -/
def projected (xi : S1024x1.Idx → BitVec 32) (xr : S1024x128.Idx → EReal) (xw : S32x100000.Idx → EReal) (xb : S1x100000.Idx → EReal) :
    S1024x100000.Idx → EReal :=
  fun j => (∑ k : Fin 32, xr (ix2 (j 0) (laneOf (xi (ix2 (j 0) 0)) k)) * xw (ix2 k (j 1))) + xb (ix2 0 (j 1))

/-- … at its coordinates. -/
theorem projected_apply (xi : S1024x1.Idx → BitVec 32) (xr : S1024x128.Idx → EReal) (xw : S32x100000.Idx → EReal) (xb : S1x100000.Idx → EReal)
    (r : Fin 1024) (v : Fin 100000) :
    projected xi xr xw xb (ix2 r v) = (∑ k : Fin 32, xr (ix2 r (laneOf (xi (ix2 r 0)) k)) * xw (ix2 k v)) + xb (ix2 0 v) := rfl

/-! Where the windows' blocks lie: the indices', the rows' and the result's at point `t`'s own rows, the weights' and the
    bias's at the start. -/

theorem index_0 : ∀ t : Fin cfg1.N, win1_0.index t = ![t.val, 0] := (by decide +kernel : ∀ t : Fin grid1.N, win1_0.index t = ![t.val, 0])
theorem index_1 : ∀ t : Fin cfg1.N, win1_1.index t = ![t.val, 0] := (by decide +kernel : ∀ t : Fin grid1.N, win1_1.index t = ![t.val, 0])
theorem index_2 : ∀ t : Fin cfg1.N, win1_2.index t = ![0, 0] := (by decide +kernel : ∀ t : Fin grid1.N, win1_2.index t = ![0, 0])
theorem index_3 : ∀ t : Fin cfg1.N, win1_3.index t = ![0, 0] := (by decide +kernel : ∀ t : Fin grid1.N, win1_3.index t = ![0, 0])
theorem index_4 : ∀ t : Fin cfg1.N, win1_4.index t = ![t.val, 0] := (by decide +kernel : ∀ t : Fin grid1.N, win1_4.index t = ![t.val, 0])

section

variable (V : (c : Dev nD) → (b : Ref sig .tc) → Buf (Elt Ideal) ((c : Thread nD τ).loc b))

/-- The row of the arrays that row `r` of the blocks of point `t` is. -/
def rowAt (t : Fin cfg1.N) (r : Fin 32) : Fin 1024 :=
  ⟨t.val * 32 + r.val, by have h : t.val < 32 := t.isLt.trans_eq Gen.N_1; have := r.isLt; omega⟩

/-- The block of the indices, an element of its array; -/
theorem block_0 (c : Dev nD) (t : Fin cfg1.N) (r : Fin 32) : blockAt V c 0 t (ix2 r (0 : Fin 1)) = V c main_v2 (ix2 (rowAt t r) (0 : Fin 1)) := by
  have e := index_0 t
  blk_ext [blockAt, e, rowAt]

/-- of the gathered rows; -/
theorem block_1 (c : Dev nD) (t : Fin cfg1.N) (r : Fin 32) (l : Fin 128) : blockAt V c 1 t (ix2 r l) = V c main_v1 (ix2 (rowAt t r) l) := by
  have e := index_1 t
  blk_ext [blockAt, e, rowAt]

/-- of the weights; -/
theorem block_2 (c : Dev nD) (t : Fin cfg1.N) (k : Fin 32) (v : Fin 100000) : blockAt V c 2 t (ix2 k v) = V c main_arg2 (ix2 k v) := by
  have e := index_2 t
  blk_ext [blockAt, e]

/-- of the bias. -/
theorem block_3 (c : Dev nD) (t : Fin cfg1.N) (v : Fin 100000) : blockAt V c 3 t (ix2 (0 : Fin 1) v) = V c main_v3 (ix2 (0 : Fin 1) v) := by
  have e := index_3 t
  blk_ext [blockAt, e]

/-- Where an element of the result's block lies in the result. -/
theorem placed_4 (t : Fin cfg1.N) (y : S32x100000.Idx) : (win1_4.blk t).view.emb y = ix2 (rowAt t (y 0)) (y 1) := by
  have e := index_4 t
  blk_ext [e, rowAt]

/-- What the region leaves in the result's array. -/
theorem left_result (c : Dev nD) : leftAt V c 4 = projected (V c main_v2) (V c main_v1) (V c main_arg2) (V c main_v3) := by
  refine (dat V c).arrAt_eq_of_covers 4 _ (by decide +kernel) fun t hf y => ?_
  blk_simp
  rw [after_4]
  refine (stored_apply _ _ _ _ y).trans (Eq.trans ?_ (congrArg (projected _ _ _ _) (placed_4 t y)).symm)
  refine Eq.trans ?_ (projected_apply _ _ _ _ (rowAt t (y 0)) (y 1)).symm
  exact congrArg₂ (· + ·)
    (Finset.sum_congr rfl fun k _ => congrArg₂ (· * ·)
      ((block_1 V c t _ _).trans (congrArg (fun i => V c main_v1 (ix2 (rowAt t (y 0)) (laneOf i k))) (block_0 V c t (y 0))))
      (block_2 V c t k (y 1)))
    (block_3 V c t (y 1))

end

/-! ## The whole result, of the arguments -/

/-- The entry of the table that an index names. -/
def entryNo (v : BitVec 32) : Fin 100000 := ⟨v.toNat % 100000, Nat.mod_lt _ (by decide)⟩

/-- THE RESULT: the embedding each index names, projected, plus the bias. -/
def logits (x : S1024.Idx → BitVec 32) (e : S100000x32.Idx → EReal) (w : S32x100000.Idx → EReal) (b : S100000.Idx → EReal) :
    S1024x100000.Idx → EReal :=
  fun j => (∑ k : Fin 32, e (ix2 (entryNo (x (ix1 (j 0)))) k) * w (ix2 k (j 1))) + b (ix1 (j 1))

/-- The table of four entries a row, at the row and the lane of an index in range, is that index's entry. -/
theorem table_at (e : S100000x32.Idx → EReal) (v : BitVec 32) (hv : v.toNat < 100000) (k : Fin 32) :
    shapeCast S25000x128 e shapeCasts_S100000x32_S25000x128 (ix2 (rowOfIndex v) (laneOf v k)) = e (ix2 (entryNo v) k) := by
  refine congrArg e (Shape.reshapeEquiv_eq_of_rowMajor _ ?_)
  refine (rowMajor_val2 _ 32 rfl).trans (Eq.trans ?_ (rowMajor_val2 _ 128 rfl).symm)
  have hs : (v.sshiftRight 2).toNat = v.toNat / 4 := by
    rw [BitVec.sshiftRight_eq_of_msb_false (by rw [BitVec.msb_eq_false_iff_two_mul_lt]; omega), BitVec.toNat_ushiftRight, Nat.shiftRight_eq_div_pow]
  show v.toNat % 100000 * 32 + k.val = (v.sshiftRight 2).toNat % 25000 * 128 + (32 * (v.toNat % 4) + k.val)
  rw [hs]; omega

/-- A gathered row, at a lane. -/
theorem packed_at (x : S1024.Idx → BitVec 32) (tb : S25000x128.Idx → EReal) (r : Fin 1024) (l : Fin 128) :
    packed (F := Ideal) x tb (ix2 r l) = tb (ix2 (rowOfIndex (x (ix1 r))) l) := by
  refine congrArg tb (funext fun a => ?_)
  have hx : at1024 r = ix1 r := funext fun a => by fin_cases a; rfl
  fin_cases a
  · exact congrArg (fun i => rowOfIndex (x i)) hx
  · rfl

/-- The indices as a column, at a row. -/
theorem column_at (x : S1024.Idx → BitVec 32) (r : Fin 1024) : shapeCast S1024x1 x shapeCasts_S1024_S1024x1 (ix2 r (0 : Fin 1)) = x (ix1 r) := by
  pointwise

/-- The bias as a row, at a lane. -/
theorem bias_at (b : S100000.Idx → EReal) (v : Fin 100000) : shapeCast S1x100000 b shapeCasts_S100000_S1x100000 (ix2 (0 : Fin 1) v) = b (ix1 v) := by
  pointwise

/-- The projection of the gathered rows, the reshaped indices and the reshaped bias is the result. -/
theorem projected_eq (x : S1024.Idx → BitVec 32) (e : S100000x32.Idx → EReal) (w : S32x100000.Idx → EReal) (b : S100000.Idx → EReal) (hx : InRange x) :
    projected (shapeCast S1024x1 x shapeCasts_S1024_S1024x1) (packed (F := Ideal) x (shapeCast S25000x128 e shapeCasts_S100000x32_S25000x128)) w
      (shapeCast S1x100000 b shapeCasts_S100000_S1x100000) = logits x e w b := by
  funext j
  refine congrArg₂ (· + ·) (Finset.sum_congr rfl fun k _ => congrArg (· * w (ix2 k (j 1))) ?_) (bias_at b (j 1))
  refine (congrArg (fun i => packed (F := Ideal) x _ (ix2 (j 0) (laneOf i k))) (column_at x (j 0))).trans ?_
  exact (packed_at x _ (j 0) _).trans (table_at e _ (hx _) k)

/-- What the program leaves in its result. -/
theorem result_eq (m : (ℓ : Loc nD τ sig) → Buf (Elt Ideal) ℓ) (d : Dev nD) (h : InRange (idxOf m d)) :
    resultOf m d = logits (m ((tcT d).loc main_arg0)) (m ((tcT d).loc main_arg1)) (m ((tcT d).loc main_arg2)) (m ((tcT d).loc main_arg3)) := by
  unfold resultOf
  rw [left_result, entry_rows, entry_column, entry_bias, entry_weights]
  exact projected_eq _ _ _ _ h

end Cert.Proof.Run

end
-- ==== Proof.Reference.lean ====
/-
  What the reference computes, over the extended reals: for indices in range its gather takes the row each index names,
  no element is masked, and its result is the same sum of products plus the bias.
-/
module

public import proofs.«01_k».proof.Proof.Value
public import proofs.«01_k».proof.Proof.Gen.ReferenceIdeal
public import proofs.«01_k».proof.Proof.Gen.ReferenceIdeal.Run
public import Idealize.ShloMosaic.Lib.Routing.Ops
public import Idealize.ShloMosaic.Lib.ReduceAll

@[expose] public section

set_option maxRecDepth 16384

noncomputable section

namespace Cert.Proof.Ref

open Cert.ReferenceIdeal Cert.ReferenceIdeal.Gen
open Idealize.ShloMosaic
open Cert.Proof.Run (entryNo logits)

/-- The index column the reference gathers with: a negative index is moved up by the table's length. -/
def column (x : IVec S1024 32) : IVec S1024x1 32 :=
  broadcastInDim S1024x1 ![0] bcast_S1024_S1024x1_0
    (select (cmpi .slt x (broadcastInDim S1024 ![] bcast_S_S1024 (constantI S_ 32 0#32)))
      (addi x (broadcastInDim S1024 ![] bcast_S_S1024 (constantI S_ 32 100000#32))) x)

/-- The reference's mask: one where an index is inside the table. -/
def mask (x : IVec S1024 32) : IVec S1024 1 :=
  Host.reduce IntOp.andi
    (andi (cmpi .sge (column x) (broadcastInDim S1024x1 ![] bcast_S_S1024x1 (constantI S_ 32 0#32)))
      (cmpi .sle (column x) (broadcastInDim S1024x1 ![0, 1] bcast_S1x1_S1024x1_0_1 (broadcastInDim S1x1 ![1] bcast_S1_S1x1_1 (constantI S1 32 99999#32)))))
    (constantI S_ 1 1#1) reducesTo_S1024x1_S1024_d1 h_S_

/-- The rows the reference multiplies. -/
def rows (x : IVec S1024 32) (e : FVec Ideal S100000x32 .f32) : FVec Ideal S1024x32 .f32 :=
  select (broadcastInDim S1024x32 ![0] bcast_S1024_S1024x32_0 (mask x))
    (Host.gather gather_S100000x32_S1024x1_S1024x32_1_0_n_n_0_1_132 e (column x))
    (broadcastInDim S1024x32 ![] bcast_S_S1024x32 (constant S_ .f32 0x7FC00000#32))

/-- The reference's result. -/
def result (x : IVec S1024 32) (e : FVec Ideal S100000x32 .f32) (w : FVec Ideal S32x100000 .f32) (b : FVec Ideal S100000 .f32) :
    FVec Ideal S1024x100000 .f32 :=
  addf (Host.dotGeneral dot_S1024x32_S32x100000_S1024x100000_1_0_0_1_n_n none (rows x e) w)
    (broadcastInDim S1024x100000 ![0, 1] bcast_S1x100000_S1024x100000_0_1 (broadcastInDim S1x100000 ![1] bcast_S100000_S1x100000_1 b))

variable (x : IVec S1024 32) (hx : ∀ j, (x j).toNat < 100000)
include hx

/-- An index in range is gathered with as it is. -/
theorem column_at (r : Fin 1024) : column x (ix2 r (0 : Fin 1)) = x (ix1 r) := by
  have h := hx (ix1 r)
  pointwise [column]
  generalize x (ix1 r) = v at h
  have hs : IntOp.cmpi .slt v 0#32 = 0#1 := by
    have : v.slt 0#32 = false := by
      simp only [BitVec.slt_eq_decide, decide_eq_false_iff_not, BitVec.toInt_eq_toNat_cond, BitVec.toNat_ofNat]; omega
    simp [IntOp.cmpi, this]
  simp [hs, Scalar.select]

/-- No index is masked. -/
theorem mask_at (j : S1024.Idx) : mask x j = 1#1 := by
  unfold mask
  refine Host.reduce_andi_one _ _ _ _ _ rfl fun i => ?_
  have hi : i = ix2 (i 0) (0 : Fin 1) := (eq_ix2 i).trans (congrArg (ix2 (i 0)) (Subsingleton.elim _ _))
  rw [hi]
  have h := hx (ix1 (i 0))
  have hc := column_at x hx (i 0)
  pointwise
  rw [hc]
  generalize x (ix1 (i 0)) = v at h
  have h0 : (0#32).sle v = true := by
    simp only [BitVec.sle_eq_decide, decide_eq_true_eq, BitVec.toInt_eq_toNat_cond, BitVec.toNat_ofNat]; omega
  have h1 : v.sle 99999#32 = true := by
    simp only [BitVec.sle_eq_decide, decide_eq_true_eq, BitVec.toInt_eq_toNat_cond, BitVec.toNat_ofNat]; omega
  simp [IntOp.cmpi, IntOp.andi, h0, h1]

/-- The gathered rows are the entries the indices name. -/
theorem rows_at (e : FVec Ideal S100000x32 .f32) (r : Fin 1024) (k : Fin 32) : rows x e (ix2 r k) = e (ix2 (entryNo (x (ix1 r))) k) := by
  have hm := mask_at x hx
  have hg : Host.gather gather_S100000x32_S1024x1_S1024x32_1_0_n_n_0_1_132 e (column x) (ix2 r k) = e (ix2 (entryNo (x (ix1 r))) k) := by
    refine Idealize.ShloMosaic.Routing.gather_row gather_S100000x32_S1024x1_S1024x32_1_0_n_n_0_1_132 rfl rfl rfl rfl rfl e (column x) r k (entryNo (x (ix1 r))) ?_ (by decide)
    refine (column_at x hx r).trans (BitVec.eq_of_toNat_eq ?_)
    have h := hx (ix1 r)
    rw [BitVec.toNat_ofNat]
    show _ = (x (ix1 r)).toNat % 100000 % 2 ^ 32
    omega
  pointwise [rows]
  rw [hm, hg]
  rfl

/-- The reference's result is the kernel's. -/
theorem result_eq (e : FVec Ideal S100000x32 .f32) (w : FVec Ideal S32x100000 .f32) (b : FVec Ideal S100000 .f32) :
    result x e w b = logits x e w b := by
  funext j
  rw [eq_ix2 j]
  pointwise [result]
  exact congrArg (· + b (ix1 (j 1))) (Finset.sum_congr rfl fun k _ => congrArg (· * w (ix2 k (j 1))) (rows_at x hx e (j 0) k))

end Cert.Proof.Ref

end
-- ==== Proof.Algebraic.lean ====
/-
  The kernel and the reference, over the extended reals, from the same arguments: both end with the same result.
-/
module

public import proofs.«01_k».proof.Proof.Frames
public import proofs.«01_k».proof.Proof.Reference

@[expose] public section

noncomputable section

namespace Cert.Proof

open Idealize.ShloMosaic Idealize.SL.Sem

/-- The reference ends with `logits` of its arguments, and keeps them. -/
theorem run_reference (m : (ℓ : Loc Cert.ReferenceIdeal.nD Cert.ReferenceIdeal.τ Cert.ReferenceIdeal.sig) → Buf (Elt Ideal) ℓ)
    (ρ : Dev Cert.ReferenceIdeal.nD → PrngReg)
    (h : ∀ (c : Dev Cert.ReferenceIdeal.nD) j, ((m ((c.tc : Thread Cert.ReferenceIdeal.nD Cert.ReferenceIdeal.τ).loc Cert.ReferenceIdeal.main_arg0) :
      IVec Cert.ReferenceIdeal.S1024 32) j).toNat < 100000) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v4)
            = Run.logits (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun _ hr c => ⟨(hr c).1.trans (Ref.result_eq _ (h c) _ _ _), (hr c).2⟩)
    (Cert.ReferenceIdeal.Value.run (F := Ideal) m ρ)

/-- From the same arguments, every index in range, the kernel and the reference end with equal results. -/
theorem algebraic : Cert.algebraic_KernelIdeal_ReferenceIdeal := by
  intro m g m' g' hpre hargs
  have hk := ok_ideal m hpre
  refine ⟨fun c => Run.resultOf m c, (θ_run Cert.KernelIdeal.defs _ _).mono (fun _ h c =>
    ⟨(h.1 c).2.2.2.2, (h.1 c).1, (h.1 c).2.1, (h.1 c).2.2.1, (h.1 c).2.2.2.1⟩) (Run.run_main (F := Ideal) m g hk), ?_⟩
  have hr : ∀ (c : Dev Cert.ReferenceIdeal.nD) j, ((m' ((c.tc : Thread Cert.ReferenceIdeal.nD Cert.ReferenceIdeal.τ).loc Cert.ReferenceIdeal.main_arg0) :
      IVec Cert.ReferenceIdeal.S1024 32) j).toNat < 100000 := by
    intro c j
    rw [(hargs c).1]
    exact hk c j
  refine (θ_run Cert.ReferenceIdeal.defs _ _).mono (fun _ h c => ⟨(h c).1.trans ?_, (h c).2⟩) (run_reference m' g' hr)
  obtain ⟨h0, h1, h2, h3⟩ := hargs c
  rw [h0, h1, h2, h3]
  exact (Run.result_eq m c (hk c)).symm

end Cert.Proof

end
-- ==== Proof.lean ====
/-
  The certificate: the frames of the three programs, that the second reading preserves the first, and that over the
  extended reals the kernel and the reference end with the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_pre, trivial, algebraic⟩

end Cert.Proof

end
